-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x1x10240 : Shape := ⟨3, ![96, 1, 10240]⟩
abbrev S2560x7168 : Shape := ⟨2, ![2560, 7168]⟩
abbrev S_ : Shape := ⟨0, ![]⟩
abbrev S128 : Shape := ⟨1, ![128]⟩
abbrev S1x128 : Shape := ⟨2, ![1, 128]⟩
abbrev S1 : Shape := ⟨1, ![1]⟩
abbrev S96x10240 : Shape := ⟨2, ![96, 10240]⟩
abbrev S96x7168 : Shape := ⟨2, ![96, 7168]⟩
abbrev S2560x512 : Shape := ⟨2, ![2560, 512]⟩
abbrev S96x512 : Shape := ⟨2, ![96, 512]⟩
abbrev S96x128 : Shape := ⟨2, ![96, 128]⟩
abbrev S96x128x1 : Shape := ⟨3, ![96, 128, 1]⟩
abbrev S32x512 : Shape := ⟨2, ![32, 512]⟩
abbrev S8x512 : Shape := ⟨2, ![8, 512]⟩
abbrev S16x512 : Shape := ⟨2, ![16, 512]⟩
abbrev S128x512 : Shape := ⟨2, ![128, 512]⟩
abbrev S10240x512 : Shape := ⟨2, ![10240, 512]⟩
abbrev S96x1x7168 : Shape := ⟨3, ![96, 1, 7168]⟩

abbrev nBuf : Space → Nat
  | .hbm => 9
  | .vmem => 7
  | .smem => 1
  | _ => 0

abbrev bufTy : (tb : Table) → Fin (tcTables nBuf tb) → BufTy
  | .hbm, ⟨0, _⟩ => ⟨S96x1x10240, .bf16⟩
  | .hbm, ⟨1, _⟩ => ⟨S2560x7168, .i8⟩
  | .hbm, ⟨2, _⟩ => ⟨S_, .f32⟩
  | .hbm, ⟨3, _⟩ => ⟨S128, .i32⟩
  | .hbm, ⟨4, _⟩ => ⟨S1x128, .i32⟩
  | .hbm, ⟨5, _⟩ => ⟨S1, .f32⟩
  | .hbm, ⟨6, _⟩ => ⟨S96x10240, .bf16⟩
  | .hbm, ⟨7, _⟩ => ⟨S96x7168, .bf16⟩
  | .hbm, ⟨8, _⟩ => ⟨S96x1x7168, .bf16⟩
  | .local _ .vmem, ⟨0, _⟩ => ⟨S1x128, .i32⟩
  | .local _ .vmem, ⟨1, _⟩ => ⟨S96x10240, .bf16⟩
  | .local _ .vmem, ⟨2, _⟩ => ⟨S2560x512, .i8⟩
  | .local _ .vmem, ⟨3, _⟩ => ⟨S2560x512, .i8⟩
  | .local _ .vmem, ⟨4, _⟩ => ⟨S96x512, .bf16⟩
  | .local _ .vmem, ⟨5, _⟩ => ⟨S96x512, .bf16⟩
  | .local _ .vmem, ⟨6, _⟩ => ⟨S96x10240, .bf16⟩
  | .local _ .smem, ⟨0, _⟩ => ⟨S1, .f32⟩
  | _, _ => ⟨S96x1x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![14], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96x10240 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2560x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S96x1x10240 : Shape := ⟨3, ![96, 1, 10240]⟩
abbrev S2560x7168 : Shape := ⟨2, ![2560, 7168]⟩
abbrev S_ : Shape := ⟨0, ![]⟩
abbrev S96x1x2560 : Shape := ⟨3, ![96, 1, 2560]⟩
abbrev S96x1x7168 : Shape := ⟨3, ![96, 1, 7168]⟩

abbrev nBuf : Space → Nat
  | .hbm => 58
  | .vmem => 0
  | .smem => 0
  | _ => 0

abbrev bufTy : (tb : Table) → Fin (tcTables nBuf tb) → BufTy
  | .hbm, ⟨0, _⟩ => ⟨S96x1x10240, .bf16⟩
  | .hbm, ⟨1, _⟩ => ⟨S2560x7168, .i8⟩
  | .hbm, ⟨2, _⟩ => ⟨S_, .f32⟩
  | .hbm, ⟨3, _⟩ => ⟨S2560x7168, .i32⟩
  | .hbm, ⟨4, _⟩ => ⟨S_, .i32⟩
  | .hbm, ⟨5, _⟩ => ⟨S2560x7168, .i32⟩
  | .hbm, ⟨6, _⟩ => ⟨S2560x7168, .i32⟩
  | .hbm, ⟨7, _⟩ => ⟨S_, .i32⟩
  | .hbm, ⟨8, _⟩ => ⟨S2560x7168, .i32⟩
  | .hbm, ⟨9, _⟩ => ⟨S2560x7168, .i32⟩
  | .hbm, ⟨10, _⟩ => ⟨S2560x7168, .bf16⟩
  | .hbm, ⟨11, _⟩ => ⟨S_, .bf16⟩
  | .hbm, ⟨12, _⟩ => ⟨S2560x7168, .bf16⟩
  | .hbm, ⟨13, _⟩ => ⟨S2560x7168, .bf16⟩
  | .hbm, ⟨14, _⟩ => ⟨S96x1x2560, .bf16⟩
  | .hbm, ⟨15, _⟩ => ⟨S96x1x7168, .f32⟩
  | .hbm, ⟨16, _⟩ => ⟨S_, .i32⟩
  | .hbm, ⟨17, _⟩ => ⟨S2560x7168, .i32⟩
  | .hbm, ⟨18, _⟩ => ⟨S2560x7168, .i32⟩
  | .hbm, ⟨19, _⟩ => ⟨S_, .i32⟩
  | .hbm, ⟨20, _⟩ => ⟨S2560x7168, .i32⟩
  | .hbm, ⟨21, _⟩ => ⟨S2560x7168, .i32⟩
  | .hbm, ⟨22, _⟩ => ⟨S2560x7168, .bf16⟩
  | .hbm, ⟨23, _⟩ => ⟨S_, .bf16⟩
  | .hbm, ⟨24, _⟩ => ⟨S2560x7168, .bf16⟩
  | .hbm, ⟨25, _⟩ => ⟨S2560x7168, .bf16⟩
  | .hbm, ⟨26, _⟩ => ⟨S96x1x2560, .bf16⟩
  | .hbm, ⟨27, _⟩ => ⟨S96x1x7168, .f32⟩
  | .hbm, ⟨28, _⟩ => ⟨S96x1x7168, .f32⟩
  | .hbm, ⟨29, _⟩ => ⟨S_, .i32⟩
  | .hbm, ⟨30, _⟩ => ⟨S2560x7168, .i32⟩
  | .hbm, ⟨31, _⟩ => ⟨S2560x7168, .i32⟩
  | .hbm, ⟨32, _⟩ => ⟨S_, .i32⟩
  | .hbm, ⟨33, _⟩ => ⟨S2560x7168, .i32⟩
  | .hbm, ⟨34, _⟩ => ⟨S2560x7168, .i32⟩
  | .hbm, ⟨35, _⟩ => ⟨S2560x7168, .bf16⟩
  | .hbm, ⟨36, _⟩ => ⟨S_, .bf16⟩
  | .hbm, ⟨37, _⟩ => ⟨S2560x7168, .bf16⟩
  | .hbm, ⟨38, _⟩ => ⟨S2560x7168, .bf16⟩
  | .hbm, ⟨39, _⟩ => ⟨S96x1x2560, .bf16⟩
  | .hbm, ⟨40, _⟩ => ⟨S96x1x7168, .f32⟩
  | .hbm, ⟨41, _⟩ => ⟨S96x1x7168, .f32⟩
  | .hbm, ⟨42, _⟩ => ⟨S_, .i32⟩
  | .hbm, ⟨43, _⟩ => ⟨S2560x7168, .i32⟩
  | .hbm, ⟨44, _⟩ => ⟨S2560x7168, .i32⟩
  | .hbm, ⟨45, _⟩ => ⟨S_, .i32⟩
  | .hbm, ⟨46, _⟩ => ⟨S2560x7168, .i32⟩
  | .hbm, ⟨47, _⟩ => ⟨S2560x7168, .i32⟩
  | .hbm, ⟨48, _⟩ => ⟨S2560x7168, .bf16⟩
  | .hbm, ⟨49, _⟩ => ⟨S_, .bf16⟩
  | .hbm, ⟨50, _⟩ => ⟨S2560x7168, .bf16⟩
  | .hbm, ⟨51, _⟩ => ⟨S2560x7168, .bf16⟩
  | .hbm, ⟨52, _⟩ => ⟨S96x1x2560, .bf16⟩
  | .hbm, ⟨53, _⟩ => ⟨S96x1x7168, .f32⟩
  | .hbm, ⟨54, _⟩ => ⟨S96x1x7168, .f32⟩
  | .hbm, ⟨55, _⟩ => ⟨S96x1x7168, .f32⟩
  | .hbm, ⟨56, _⟩ => ⟨S96x1x7168, .f32⟩
  | .hbm, ⟨57, _⟩ => ⟨S96x1x7168, .bf16⟩
  | _, _ => ⟨S96x1x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_7 : Ref sig .tc := ⟨.hbm, 42, rfl⟩
abbrev main_v30 : Ref sig .tc := ⟨.hbm, 43, rfl⟩
abbrev main_v31 : Ref sig .tc := ⟨.hbm, 44, rfl⟩
abbrev main_c_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Proof.Pieces.lean ====
/-
  WHAT ONE GRID POINT COMPUTES, AS ONE FORMULA. The printed body spells its eighty lane groups out one after another, cut
  into parts at arbitrary places. This module states the same stores with one function per lane group:

  - `permuteLanes order x`: one 96 × 128 group of activations with its lanes moved as the order table says;
  - `unpackGroup w`: 32 rows of packed bytes as 128 rows of weights −1, 0, 1 (or 2);
  - `stack w`: the eighty unpacked groups one above the other;
  - `lanePieces`: the eighty stores of permuted activations into the scratch.

  `pieces_first`, `pieces_later`, `pieces_scratch` say that these are the body's stores, at the first grid point and at
  the later ones.
-/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic

variable {F : FTy → Type} [FloatOps F]

/-- One lane group of the activations with its 128 lanes rearranged: lane `L` of the result is lane `order[L]` of `x`. -/
abbrev permuteLanes (order : Vec F S1x128 .i32) (x : Vec F S96x128 .bf16) : FVec F S96x128 .bf16 := k0_pay4 order x

/-- One plane of a lane group: two bits of every half word, taken out by `mask` below the exponent that `base` supplies,
    minus the constant that leaves the code less one. -/
def plane (u : IVec S8x512 32) (mask : BitVec 32) (sub : BitVec 16) : FVec F S16x512 .bf16 :=
  subf (bitcastToFloat .bf16 (bitcast S16x512 16 (andi u (broadcast S8x512 mask)) bitcasts_S8x512_w32_S16x512_w16))
    (broadcast S16x512 (Scalar.ofBits .bf16 sub))

/-- 32 rows of packed bytes as eight 32-bit words per column: word `a` holds rows `4a` to `4a + 3`. -/
def wordsOf (w : Vec F S32x512 .i8) : IVec S8x512 32 := bitcast S8x512 32 w bitcasts_S32x512_w8_S8x512_w32

/-- 32 rows of packed bytes as 128 rows of weights: the eight planes one above the other. -/
def unpackGroup (w : Vec F S32x512 .i8) : FVec F S128x512 .bf16 :=
  concatenate S128x512 0
    [⟨S16x512, plane (F := F) (ori (wordsOf w) (broadcast S8x512 0x43004300#32)) 0x43034303#32 0x4301#16⟩,
     ⟨S16x512, plane (F := F) (ori (wordsOf w) (broadcast S8x512 0x43004300#32)) 0x420C420C#32 0x4204#16⟩,
     ⟨S16x512, plane (F := F) (ori (wordsOf w) (broadcast S8x512 0x43004300#32)) 0x41304130#32 0x4110#16⟩,
     ⟨S16x512, plane (F := F) (ori (shrui (wordsOf w) (broadcast S8x512 3#32)) (broadcast S8x512 0x41804180#32)) 0x41984198#32 0x4188#16⟩,
     ⟨S16x512, plane (F := F) (ori (shrui (wordsOf w) (broadcast S8x512 3#32)) (broadcast S8x512 0x41804180#32)) 0x40E040E0#32 0x40A0#16⟩,
     ⟨S16x512, plane (F := F) (ori (shrui (wordsOf w) (broadcast S8x512 10#32)) (broadcast S8x512 0x43004300#32)) 0x43034303#32 0x4301#16⟩,
     ⟨S16x512, plane (F := F) (ori (shrui (wordsOf w) (broadcast S8x512 10#32)) (broadcast S8x512 0x43004300#32)) 0x420C420C#32 0x4204#16⟩,
     ⟨S16x512, plane (F := F) (ori (shrui (wordsOf w) (broadcast S8x512 10#32)) (broadcast S8x512 0x43004300#32)) 0x41304130#32 0x4110#16⟩]
    concatenates_S16x512_S16x512_S16x512_S16x512_S16x512_S16x512_S16x512_S16x512_S128x512_d0

/-- Rows `32 g` to `32 g + 31` lie in the block of packed weights. -/
theorem rowsInb (g : Fin 80) : ∀ a, (![32 * g.val, 0] : Fin 2 → ℕ) a + S32x512.size a ≤ S2560x512.size a := fun a => by
  match a with
  | ⟨0, _⟩ => show 32 * g.val + 32 ≤ 2560; omega
  | ⟨1, _⟩ => show 0 + 512 ≤ 512; omega

/-- Lanes `128 g` to `128 g + 127` lie in the activations. -/
theorem lanesInb (g : Fin 80) : ∀ a, (![0, 128 * g.val] : Fin 2 → ℕ) a + S96x128.size a ≤ S96x10240.size a := fun a => by
  match a with
  | ⟨0, _⟩ => show 0 + 96 ≤ 96; omega
  | ⟨1, _⟩ => show 128 * g.val + 128 ≤ 10240; omega

/-- The rectangle of the packed weights that lane group `g` unpacks. -/
abbrev rowsRect (g : Fin 80) : Rect S2560x512 := Rect.unit ![32 * g.val, 0] S32x512.size (rowsInb g)
/-- The rectangle of the activations that is lane group `g`. -/
abbrev lanesRect (g : Fin 80) : Rect S96x10240 := Rect.unit ![0, 128 * g.val] S96x128.size (lanesInb g)

theorem concatenates_groups (f : Fin 80 → FVec F S128x512 .bf16) :
    Shape.Concatenates ((List.ofFn fun g : Fin 80 => (⟨S128x512, f g⟩ : (s : Shape) × (s.Idx → F .bf16))).map (·.1)) S10240x512 0 := by
  have h : (List.ofFn fun g : Fin 80 => (⟨S128x512, f g⟩ : (s : Shape) × (s.Idx → F .bf16))).map (·.1) = List.replicate 80 S128x512 := by
    rw [List.map_ofFn]; exact List.ofFn_const _ _
  rw [h]; decide

/-- The eighty lane groups' weights one above the other. -/
def stack (f : Fin 80 → FVec F S128x512 .bf16) : FVec F S10240x512 .bf16 :=
  concatenate S10240x512 0 (List.ofFn fun g : Fin 80 => ⟨S128x512, f g⟩) (concatenates_groups f)

section Runs
variable (c : Dev nD) (i : grid0.Coords) (arg1 : Memref sig .tc .smem S1 .f32) (harg1 : arg1.IsWhole)
    (arg2 : Memref sig .tc .vmem S1x128 .i32) (harg2 : arg2.IsWhole) (arg3 : Memref sig .tc .vmem S96x10240 .bf16) (harg3 : arg3.IsWhole)
    (arg4 : Memref sig .tc .vmem S2560x512 .i8) (harg4 : arg4.IsWhole) (arg5 : Memref sig .tc .vmem S96x512 .bf16) (harg5 : arg5.IsWhole)
    (arg6 : Memref sig .tc .vmem S96x10240 .bf16) (harg6 : arg6.IsWhole)
    (x0 : Vec F S1 .f32) (x1 : Vec F S1x128 .i32) (x2 : Vec F S96x10240 .bf16) (x3 : Vec F S2560x512 .i8) (xs0 : Vec F S96x10240 .bf16)

/-- At a later point the body makes one store: the product of the scratch with the unpacked weights. -/
theorem pieces_later (hc0 : ¬cond0_0 i) :
    (kernelRun0_B c i arg1 harg1 arg2 harg2 arg3 harg3 arg4 harg4 arg5 harg5 arg6 harg6 hc0 x0 x1 x2 x3 xs0).1
      = [⟨Rect.unit ![0, 0] S96x512.size inb_S96x512_S96x512_0_0,
          k0_pay2
            (View.readAt (Elt F) arg6.view (Rect.unit ![0, 0] S96x10240.size inb_S96x10240_S96x10240_0_0).toLoadRect (harg6.unread xs0))
            (stack fun g => unpackGroup (View.readAt (Elt F) arg4.view (rowsRect g).toLoadRect (harg4.unread x3)))
            (View.readAt (Elt F) arg1.view (Rect.unit ![0] S1.size inb_S1_S1_0).toLoadRect (harg1.unread x0) (Shape.Idx.first (by decide)))⟩] := by
  sl_kernel_rfl

/-- The eighty stores of permuted activations, last first. -/
def lanePieces : List (View.Piece (Elt F) S96x10240 .bf16) :=
  List.ofFn fun g : Fin 80 => ⟨lanesRect g.rev,
    permuteLanes (View.readAt (Elt F) arg2.view (Rect.unit ![0, 0] S1x128.size inb_S1x128_S1x128_0_0).toLoadRect (harg2.unread x1))
      (View.readAt (Elt F) arg3.view (lanesRect g.rev).toLoadRect (harg3.unread x2))⟩

/-- At the first point the body stores the permuted activations into the scratch. -/
theorem pieces_scratch (hc0 : cond0_0 i) :
    (kernelRun0_A c i arg1 harg1 arg2 harg2 arg3 harg3 arg4 harg4 arg5 harg5 arg6 harg6 hc0 x0 x1 x2 x3).2.1
      = lanePieces arg2 harg2 arg3 harg3 x1 x2 := by
  sl_kernel_rfl

/-- At the first point the body then stores the product of what it put into the scratch with the unpacked weights. -/
theorem pieces_first (hc0 : cond0_0 i) :
    (kernelRun0_A c i arg1 harg1 arg2 harg2 arg3 harg3 arg4 harg4 arg5 harg5 arg6 harg6 hc0 x0 x1 x2 x3).1
      = [⟨Rect.unit ![0, 0] S96x512.size inb_S96x512_S96x512_0_0,
          k0_pay2
            (arg6.view.readCov (kernelRun0_A c i arg1 harg1 arg2 harg2 arg3 harg3 arg4 harg4 arg5 harg5 arg6 harg6 hc0 x0 x1 x2 x3).2.1
              (Rect.unit ![0, 0] S96x10240.size inb_S96x10240_S96x10240_0_0).toLoadRect)
            (stack fun g => unpackGroup (View.readAt (Elt F) arg4.view (rowsRect g).toLoadRect (harg4.unread x3)))
            (View.readAt (Elt F) arg1.view (Rect.unit ![0] S1.size inb_S1_S1_0).toLoadRect (harg1.unread x0) (Shape.Idx.first (by decide)))⟩] := by
  sl_kernel_rfl

end Runs

end Cert.KernelIdeal.Gen

end
-- ==== Proof.Codes.lean ====
/-
  THE TWO-BIT CODES. A weight is a two-bit field of a byte, less one: `trit b q` for field `q` of byte `b`. The kernel takes
  a field out of a 32-bit word without a conversion: it lays the two bits into the mantissa of a bfloat16 whose exponent is
  fixed, and subtracts the constant that leaves the code less one. The eight planes are the eight fields of a half word.
  `half_plane` says what the sixteen bits of one plane are, `value_plane` which number they stand for.
-/
module

public import proofs.«01_k».proof.Proof.Pieces
public import Idealize.ShloMosaic.Lib.BitcastFour
public import Idealize.ShloMosaic.Lib.ValueIdx
public import Idealize.ShloMosaic.Lib.IdealHost

@[expose] public section

noncomputable section

namespace Cert.KernelIdeal.Gen

open Idealize.ShloMosaic Idealize.ShloMosaic.ValueIdx

/-- The number a two-bit code stands for: the code less one. -/
def less1 (b0 b1 : Bool) : EReal := (((if b0 then 1 else 0) + (if b1 then 2 else 0) - 1 : ℝ) : EReal)

/-- The weight in field `q` of byte `b`. -/
def trit (b : BitVec 8) (q : ℕ) : EReal := less1 (b.getLsbD (2 * q)) (b.getLsbD (2 * q + 1))

/-- The sixteen bits of plane `p` for a code with bits `b0` and `b1`. -/
def planeBits : Fin 8 → Bool → Bool → BitVec 16
  | 0, b0, b1 | 5, b0, b1 => 0x4300#16 ||| (if b0 then 1#16 else 0#16) ||| (if b1 then 2#16 else 0#16)
  | 1, b0, b1 | 6, b0, b1 => 0x4200#16 ||| (if b0 then 4#16 else 0#16) ||| (if b1 then 8#16 else 0#16)
  | 2, b0, b1 | 7, b0, b1 => 0x4100#16 ||| (if b0 then 0x10#16 else 0#16) ||| (if b1 then 0x20#16 else 0#16)
  | 3, b0, b1 => 0x4180#16 ||| (if b0 then 8#16 else 0#16) ||| (if b1 then 0x10#16 else 0#16)
  | 4, b0, b1 => 0x4080#16 ||| (if b0 then 0x20#16 else 0#16) ||| (if b1 then 0x40#16 else 0#16)

/-- The constant subtracted in plane `p`. -/
def planeSub : Fin 8 → BitVec 16
  | 0 | 5 => 0x4301#16
  | 1 | 6 => 0x4204#16
  | 2 | 7 => 0x4110#16
  | 3 => 0x4188#16
  | 4 => 0x40A0#16

/-- Plane `p`'s word before the mask. -/
def planeWord : Fin 8 → BitVec 32 → BitVec 32
  | 0, u | 1, u | 2, u => u ||| 0x43004300#32
  | 3, u | 4, u => (u >>> 3) ||| 0x41804180#32
  | 5, u | 6, u | 7, u => (u >>> 10) ||| 0x43004300#32

/-- Plane `p`'s mask. -/
def planeMask : Fin 8 → BitVec 32
  | 0 | 5 => 0x43034303#32
  | 1 | 6 => 0x420C420C#32
  | 2 | 7 => 0x41304130#32
  | 3 => 0x41984198#32
  | 4 => 0x40E040E0#32

set_option maxHeartbeats 2000000 in
/-- Half `h` of plane `p`'s masked word holds bits `2p` and `2p + 1` of half `h` of the word, in the mantissa of a fixed
    exponent: nothing of the neighbouring bits or of the other half passes the mask. -/
theorem half_plane (p : Fin 8) (u : BitVec 32) (h : Fin 2) :
    (planeWord p u &&& planeMask p).extractLsb' (16 * h.val) 16
      = planeBits p (u.getLsbD (16 * h.val + 2 * p.val)) (u.getLsbD (16 * h.val + 2 * p.val + 1)) := by
  generalize e0 : u.getLsbD (16 * h.val + 2 * p.val) = b0
  generalize e1 : u.getLsbD (16 * h.val + 2 * p.val + 1) = b1
  apply BitVec.eq_of_getLsbD_eq
  intro i hi
  rw [BitVec.getLsbD_extractLsb']
  fin_cases h <;> fin_cases p <;> simp only [Fin.reduceFinMk, Fin.zero_eta, Fin.isValue, Fin.val_ofNat, Nat.reduceMod, Nat.reduceMul, Nat.reduceAdd,
    Fin.mk_one, Fin.val_zero, Fin.val_one] at e0 e1 ⊢ <;> interval_cases i <;>
    cases b0 <;> cases b1 <;> simp_all [planeWord, planeMask, planeBits]

/-- The number plane `p` holds for the code zero. -/
def planeBase : Fin 8 → ℝ
  | 0 | 5 => 128
  | 1 | 6 => 32
  | 2 | 7 => 8
  | 3 => 16
  | 4 => 4

/-- The sixteen bits of plane `p` stand for the plane's base plus the code. -/
theorem value_planeBits (p : Fin 8) (b0 b1 : Bool) :
    Ideal.ofBits .bf16 (planeBits p b0 b1)
      = ((planeBase p + ((if b0 then 1 else 0) + (if b1 then 2 else 0)) : ℝ) : EReal) := by
  fin_cases p <;> cases b0 <;> cases b1 <;>
    simp [planeBits, planeBase, Ideal.ofBits, Ideal.ieee, -EReal.coe_mul, -EReal.coe_add] <;> norm_num

/-- The constant of plane `p` is its base plus one. -/
theorem value_planeSub (p : Fin 8) : Ideal.ofBits .bf16 (planeSub p) = ((planeBase p + 1 : ℝ) : EReal) := by
  fin_cases p <;> simp [planeSub, planeBase, Ideal.ofBits, Ideal.ieee, -EReal.coe_mul, -EReal.coe_add] <;> norm_num

/-- The number the sixteen bits of plane `p` stand for, less the plane's constant, is the code less one. -/
theorem value_plane (p : Fin 8) (b0 b1 : Bool) :
    Ideal.ofBits .bf16 (planeBits p b0 b1) - Ideal.ofBits .bf16 (planeSub p) = less1 b0 b1 := by
  rw [value_planeBits, value_planeSub, ← EReal.coe_sub, less1, EReal.coe_eq_coe_iff]
  ring

end Cert.KernelIdeal.Gen

end
-- ==== Proof.Weights.lean ====
/-
  THE UNPACKED WEIGHTS. What the kernel's eight planes hold, element by element: row `L` of an unpacked lane group is the
  weight that row `ord L` of the group has, where `ord L / 4` is the byte and `ord L % 4` the field in it. The planes come
  out in an order of their own, and `ord` is that order.
-/
module

public import proofs.«01_k».proof.Proof.Codes
public import Idealize.ShloMosaic.Lib.Pipeline.Value

@[expose] public section

set_option maxRecDepth 16384

noncomputable section

namespace Cert.KernelIdeal.Gen

open Idealize.ShloMosaic Idealize.ShloMosaic.ValueIdx Idealize.ShloMosaic.Tactic

/-- The weight, of the 128 of a lane group, that the unpacking puts at row `L`: plane `L / 16`, word `L % 16 / 2`, half `L % 2`. -/
def ord (L : ℕ) : ℕ := 4 * (4 * (L % 16 / 2) + 2 * (L % 2) + L / 16 / 4) + L / 16 % 4

/-- No two rows get the same weight. -/
theorem ord_inj {a b : ℕ} (ha : a < 128) (hb : b < 128) (h : ord a = ord b) : a = b := by
  have inv : ∀ L : Fin 128, 16 * (4 * (ord L.val / 4 % 2) + ord L.val % 4) + 2 * (ord L.val / 16) + ord L.val / 8 % 2 = L.val := by decide
  have ia := inv ⟨a, ha⟩
  have ib := inv ⟨b, hb⟩
  simp only [h] at ia ib
  omega

theorem ord_lt {L : ℕ} (h : L < 128) : ord L < 128 := by unfold ord; omega

/-- Row `r` of plane `p` holds the fields that are `p`'s in half `r % 2` of word `r / 2`. -/
theorem plane_apply (p : Fin 8) (w : Vec Ideal S32x512 .i8) (r : Fin 16) (l : Fin 512) :
    plane (F := Ideal) (fun j => planeWord p (wordsOf w j)) (planeMask p) (planeSub p) (ix2 r l)
      = trit (w (ix2 (⟨4 * (r.val / 2) + 2 * (r.val % 2) + p.val / 4, by omega⟩ : Fin 32) l)) (p.val % 4) := by
  have hsrc : ∀ hp, bitcasts_S8x512_w32_S16x512_w16.srcIdx (ix2 r l) (r.val / 2) hp = ix2 (⟨r.val / 2, by omega⟩ : Fin 8) l := by
    intro hp
    funext b
    match b with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))
  have hbits : bitcast S16x512 16 (andi (fun j => planeWord p (wordsOf w j)) (broadcast S8x512 (planeMask p)))
        bitcasts_S8x512_w32_S16x512_w16 (ix2 r l)
      = (planeWord p (wordsOf w (ix2 (⟨r.val / 2, by omega⟩ : Fin 8) l)) &&& planeMask p).extractLsb' (16 * (r.val % 2)) 16 := by
    rw [bitcast_32_16]
    exact congrArg (fun j => ((planeWord p (wordsOf w j) &&& planeMask p).extractLsb' (16 * (r.val % 2)) 16)) (hsrc _)
  have hbit : ∀ q (hq : q < 8), (wordsOf w (ix2 (⟨r.val / 2, by omega⟩ : Fin 8) l)).getLsbD (16 * (r.val % 2) + 8 * (p.val / 4) + q)
      = (w (ix2 (⟨4 * (r.val / 2) + 2 * (r.val % 2) + p.val / 4, by omega⟩ : Fin 32) l)).getLsbD q := by
    intro q hq
    have h := bitcast_8_32_getLsbD_ix2 w bitcasts_S32x512_w8_S8x512_w32 (⟨r.val / 2, by omega⟩ : Fin 8) l
      (16 * (r.val % 2) + 8 * (p.val / 4) + q) (by omega) (⟨4 * (r.val / 2) + 2 * (r.val % 2) + p.val / 4, by omega⟩ : Fin 32)
      (by show 4 * (r.val / 2) + 2 * (r.val % 2) + p.val / 4 = 4 * (r.val / 2) + _; omega)
    rw [show (16 * (r.val % 2) + 8 * (p.val / 4) + q) % 8 = q by omega] at h
    exact h
  show Ideal.ofBits .bf16 _ - Ideal.ofBits .bf16 (planeSub p) = _
  rw [hbits, half_plane p _ ⟨r.val % 2, by omega⟩, value_plane]
  show less1 (BitVec.getLsbD _ (16 * (r.val % 2) + 2 * p.val)) (BitVec.getLsbD _ (16 * (r.val % 2) + 2 * p.val + 1)) = _
  rw [trit, ← hbit (2 * (p.val % 4)) (by omega), ← hbit (2 * (p.val % 4) + 1) (by omega)]
  congr 2 <;> omega

/-- The eight planes of a lane group, one list. -/
abbrev planes (w : Vec Ideal S32x512 .i8) : List ((s : Shape) × (s.Idx → EReal)) :=
  List.ofFn fun p : Fin 8 => ⟨S16x512, plane (F := Ideal) (fun j => planeWord p (wordsOf w j)) (planeMask p) (planeSub p)⟩

theorem concatenates_planes (w : Vec Ideal S32x512 .i8) : Shape.Concatenates ((planes w).map (·.1)) S128x512 0 := by
  have h : (planes w).map (·.1) = List.replicate 8 S16x512 := by
    rw [List.map_ofFn]; exact List.ofFn_const _ _
  rw [h]; decide

/-- The unpacked lane group is the concatenation of the eight planes. -/
theorem unpackGroup_eq (w : Vec Ideal S32x512 .i8) :
    unpackGroup (F := Ideal) w = concatenate S128x512 0 (planes w) (concatenates_planes w) := by
  sl_kernel_rfl

/-- Row `L` of the unpacked lane group is weight `ord L` of the group. -/
theorem unpackGroup_apply (w : Vec Ideal S32x512 .i8) (L : Fin 128) (l : Fin 512) :
    unpackGroup (F := Ideal) w (ix2 L l)
      = trit (w (ix2 (⟨ord L.val / 4, by have := ord_lt L.isLt; omega⟩ : Fin 32) l)) (ord L.val % 4) := by
  rw [unpackGroup_eq w,
    concatenate_ofFn_apply (s₁ := S16x512) (t := S128x512) 0 _ _ rfl 16 rfl (ix2 L l) (⟨L.val / 16, by omega⟩ : Fin 8) rfl
      (ix2 (⟨L.val % 16, by omega⟩ : Fin 16) l) rfl (fun b hb => by
        match b, hb with
        | ⟨0, _⟩, hb => exact absurd rfl hb
        | ⟨1, _⟩, _ => rfl),
    plane_apply]
  refine congrArg₂ trit (congrArg w (congrArg (ix2 · l) (Fin.ext ?_))) ?_
  · show 4 * (L.val % 16 / 2) + 2 * (L.val % 16 % 2) + L.val / 16 / 4 = ord L.val / 4
    unfold ord; omega
  · show L.val / 16 % 4 = ord L.val % 4
    unfold ord; omega

/-- The activation lane that meets row `K` of the stacked weights: lane groups stay in place, `ord` acts within each. -/
def lane (K : Fin 10240) : Fin 10240 :=
  ⟨128 * (K.val / 128) + ord (K.val % 128), by have := ord_lt (Nat.mod_lt K.val (by decide : 0 < 128)); omega⟩

/-- `lane` only reorders: no two rows meet the same activation lane. -/
theorem lane_bijective : Function.Bijective lane := by
  apply Finite.injective_iff_bijective.1
  intro a b h
  have h := congrArg Fin.val h
  have ha := ord_lt (Nat.mod_lt a.val (by decide : 0 < 128))
  have hb := ord_lt (Nat.mod_lt b.val (by decide : 0 < 128))
  simp only [lane] at h
  have h1 : a.val / 128 = b.val / 128 := by omega
  have h2 : ord (a.val % 128) = ord (b.val % 128) := by omega
  have h3 := ord_inj (Nat.mod_lt _ (by decide)) (Nat.mod_lt _ (by decide)) h2
  apply Fin.ext
  omega

/-- The stack of unpacked lane groups of a block of packed bytes `w`: row `K` is field `lane K % 4` of byte row `lane K / 4`. -/
theorem stack_apply (w : Vec Ideal S2560x512 .i8) (f : Fin 80 → Vec Ideal S32x512 .i8)
    (hf : ∀ g j l, f g (ix2 j l) = w (ix2 (⟨32 * g.val + j.val, by omega⟩ : Fin 2560) l)) (K : Fin 10240) (l : Fin 512) :
    stack (F := Ideal) (fun g => unpackGroup (f g)) (ix2 K l)
      = trit (w (ix2 (⟨(lane K).val / 4, by omega⟩ : Fin 2560) l)) ((lane K).val % 4) := by
  unfold stack
  rw [concatenate_ofFn_apply (s₁ := S128x512) (t := S10240x512) 0 _ _ rfl 128 rfl (ix2 K l) (⟨K.val / 128, by omega⟩ : Fin 80) rfl
      (ix2 (⟨K.val % 128, by omega⟩ : Fin 128) l) rfl (fun b hb => by
        match b, hb with
        | ⟨0, _⟩, hb => exact absurd rfl hb
        | ⟨1, _⟩, _ => rfl),
    unpackGroup_apply, hf]
  have := ord_lt (Nat.mod_lt K.val (by decide : 0 < 128))
  refine congrArg₂ trit (congrArg w (congrArg (ix2 · l) (Fin.ext ?_))) ?_
  · show 32 * (K.val / 128) + ord (K.val % 128) / 4 = (128 * (K.val / 128) + ord (K.val % 128)) / 4
    omega
  · show ord (K.val % 128) % 4 = (128 * (K.val / 128) + ord (K.val % 128)) % 4
    omega

end Cert.KernelIdeal.Gen

end
-- ==== Proof.Block.lean ====
/-
  WHAT ONE GRID POINT LEAVES. The scratch holds the activations with the lanes of every group in the order the unpacking
  produces the weights (`permuted`); the output block holds, at each row and column, the sum over all 10240 positions of the
  activation times its weight, times the scale (`blockOut`). Both operands are reordered by the same `lane`, so the sum is
  the sum over the positions in their own order.
-/
module

public import proofs.«01_k».proof.Proof.Weights
public import Idealize.ShloMosaic.Lib.WholeRead
public import Idealize.ShloMosaic.Lib.MatmulPlain

@[expose] public section

set_option maxRecDepth 16384

noncomputable section

namespace Cert.KernelIdeal.Gen

open Idealize.ShloMosaic Idealize.ShloMosaic.ValueIdx Idealize.ShloMosaic.Tactic

/-- The activations with every lane group reordered. -/
def permuted (x : Vec Ideal S96x10240 .bf16) : Vec Ideal S96x10240 .bf16 :=
  fun y => x (ix2 (show Fin 96 from y 0) (lane (show Fin 10240 from y 1)))

/-- The order table as the kernel is given it: entry `L` is `ord L`. -/
def IsOrder (x1 : Vec Ideal S1x128 .i32) : Prop := ∀ L : Fin 128, x1 (ix2 (0 : Fin 1) L) = BitVec.ofNat 32 (ord L.val)

/-- A lane number is not negative, so the wrap-around of negative indices leaves it alone. -/
theorem notNegative : ∀ L : Fin 128, (Scalar.select (IntOp.cmpi .slt (BitVec.ofNat 32 L.val) 0#32)
    (IntOp.addi (BitVec.ofNat 32 L.val) 128#32) (BitVec.ofNat 32 L.val)).toNat = L.val := by decide

/-- The kernel's lane rearrangement moves lane `ord L` to lane `L`. -/
theorem permuteLanes_apply (x1 : Vec Ideal S1x128 .i32) (h1 : IsOrder x1) (x : Vec Ideal S96x128 .bf16) (r : Fin 96) (L : Fin 128) :
    permuteLanes (F := Ideal) x1 x (ix2 r L) = x (ix2 r (⟨ord L.val, ord_lt L.isLt⟩ : Fin 128)) := by
  have hlt := ord_lt L.isLt
  have horder : k0_pay3 (F := Ideal) x1 (ix2 r L) = BitVec.ofNat 32 (ord L.val) := by
    unfold k0_pay3
    simp only [shapeCast_self]
    rw [← h1 L]
    refine congrArg x1 (funext fun b => ?_)
    match b with
    | ⟨0, _⟩ => rfl
    | ⟨1, _⟩ => rfl
  have hsel := notNegative ⟨ord L.val, hlt⟩
  unfold permuteLanes k0_pay4
  simp only [shapeCast_self, shapeCast_shapeCast]
  refine congrArg x (funext fun b => Fin.ext ?_)
  match b with
  | ⟨0, _⟩ => rfl
  | ⟨1, _⟩ =>
    show (Scalar.select (IntOp.cmpi .slt (k0_pay3 (F := Ideal) x1 (ix2 r L)) 0#32) (IntOp.addi (k0_pay3 (F := Ideal) x1 (ix2 r L)) 128#32)
      (k0_pay3 (F := Ideal) x1 (ix2 r L))).toNat % 128 = ord L.val
    rw [horder, hsel]
    exact Nat.mod_eq_of_lt hlt

/-- Offsets of a whole-block access. -/
theorem zeros2 : (![0, 0] : Fin 2 → ℕ) = fun _ => 0 := by funext a; match a with | ⟨0, _⟩ => rfl | ⟨1, _⟩ => rfl

section Scratch
variable (c : Dev nD) (i : grid0.Coords) (arg1 : Memref sig .tc .smem S1 .f32) (harg1 : arg1.IsWhole)
    (arg2 : Memref sig .tc .vmem S1x128 .i32) (harg2 : arg2.IsWhole) (arg3 : Memref sig .tc .vmem S96x10240 .bf16) (harg3 : arg3.IsWhole)
    (arg4 : Memref sig .tc .vmem S2560x512 .i8) (harg4 : arg4.IsWhole) (arg5 : Memref sig .tc .vmem S96x512 .bf16) (harg5 : arg5.IsWhole)
    (arg6 : Memref sig .tc .vmem S96x10240 .bf16) (harg6 : arg6.IsWhole)
    (x0 : Vec Ideal S1 .f32) (x1 : Vec Ideal S1x128 .i32) (x2 : Vec Ideal S96x10240 .bf16) (x3 : Vec Ideal S2560x512 .i8)

/-- The store of lane group `g` puts its part of the permuted activations in place. -/
theorem lane_part (h1 : IsOrder x1) (g : Fin 80) (r : Fin 96) (L : Fin 128) :
    permuteLanes (F := Ideal) (View.readAt (Elt Ideal) arg2.view (Rect.unit ![0, 0] S1x128.size inb_S1x128_S1x128_0_0).toLoadRect (harg2.unread x1))
        (View.readAt (Elt Ideal) arg3.view (lanesRect g).toLoadRect (harg3.unread x2)) (ix2 r L)
      = permuted x2 ((lanesRect g).emb (ix2 r L)) := by
  have hg := g.isLt
  have hlt := ord_lt L.isLt
  have hord : View.readAt (Elt Ideal) arg2.view (Rect.unit ![0, 0] S1x128.size inb_S1x128_S1x128_0_0).toLoadRect (harg2.unread x1) = x1 := by
    funext j
    rw [harg2.readAt_unread]
    exact congrFun (View.ld_unit_zero zeros2 _ x1) j
  rw [hord, permuteLanes_apply x1 h1, harg3.readAt_unread]
  refine congrArg x2 (funext fun b => Fin.ext ?_)
  match b with
  | ⟨0, _⟩ =>
    show 0 + 1 * r.val = 0 + 1 * r.val
    rfl
  | ⟨1, _⟩ =>
    show 128 * g.val + 1 * ord L.val = 128 * ((128 * g.val + 1 * L.val) / 128) + ord ((128 * g.val + 1 * L.val) % 128)
    rw [show (128 * g.val + 1 * L.val) / 128 = g.val by omega, show (128 * g.val + 1 * L.val) % 128 = L.val by omega, Nat.one_mul]

/-- So do all eighty. -/
theorem lanePieces_part (h1 : IsOrder x1) :
    ∀ p ∈ lanePieces (F := Ideal) arg2 harg2 arg3 harg3 x1 x2, ∀ y : p.1.shape.Idx, p.2 y = permuted x2 (p.1.emb y) := by
  unfold lanePieces
  rw [List.forall_mem_ofFn_iff]
  intro g y
  have e : y = ix2 (show Fin 96 from y 0) (show Fin 128 from y 1) := eq_ix2 (n0 := 96) (n1 := 128) y
  rw [e]
  exact lane_part arg2 harg2 arg3 harg3 x1 x2 h1 g.rev _ _

/-- What the first point's stores into the scratch amount to: the permuted activations. -/
theorem scratch_canon (h1 : IsOrder x1) (hc0 : cond0_0 i) :
    View.canon (kernelRun0_A (F := Ideal) c i arg1 harg1 arg2 harg2 arg3 harg3 arg4 harg4 arg5 harg5 arg6 harg6 hc0 x0 x1 x2 x3).2.1 = permuted x2 := by
  funext y
  have hy := scover0_A_0 c i arg1 harg1 arg2 harg2 arg3 harg3 arg4 harg4 arg5 harg5 arg6 harg6 hc0 x0 x1 x2 x3 y
  rw [pieces_scratch] at hy ⊢
  exact View.canon_apply_of_pieces (permuted x2) _ (lanePieces_part arg2 harg2 arg3 harg3 x1 x2 h1) y hy

/-- The scratch after the first point. -/
theorem sout_first (h1 : IsOrder x1) (hc0 : cond0_0 i) :
    sout0_A_0 (F := Ideal) c i arg1 harg1 arg2 harg2 arg3 harg3 arg4 harg4 arg5 harg5 arg6 harg6 hc0 x0 x1 x2 x3 = permuted x2 := by
  funext y
  unfold sout0_A_0
  rw [View.read_writes_apply_eq_canon _ _ y _ (scover0_A_0 c i arg1 harg1 arg2 harg2 arg3 harg3 arg4 harg4 arg5 harg5 arg6 harg6 hc0 x0 x1 x2 x3 y),
    scratch_canon c i arg1 harg1 arg2 harg2 arg3 harg3 arg4 harg4 arg5 harg5 arg6 harg6 x0 x1 x2 x3 h1 hc0]

/-- The output block of one point: activations times weights, summed, times the scale. -/
def blockOut : Vec Ideal S96x512 .bf16 := fun y =>
  (∑ k : Fin 10240, x2 (ix2 (show Fin 96 from y 0) k)
      * trit (x3 (ix2 (⟨k.val / 4, by omega⟩ : Fin 2560) (show Fin 512 from y 1))) (k.val % 4))
    * x0 (Shape.Idx.first (by decide))

/-- The block's formula over the permuted activations and the stack of unpacked groups is the plain sum. -/
theorem product_eq (s : EReal) (hs : s = x0 (Shape.Idx.first (by decide))) (xp : Vec Ideal S96x10240 .bf16) (hxp : xp = permuted x2) :
    k0_pay2 (F := Ideal) xp (stack (F := Ideal) fun g => unpackGroup (View.readAt (Elt Ideal) arg4.view (rowsRect g).toLoadRect (harg4.unread x3))) s
      = blockOut x0 x2 x3 := by
  subst hs hxp
  funext y
  obtain ⟨r, l, rfl⟩ : ∃ (r : Fin 96) (l : Fin 512), y = ix2 r l := ⟨y 0, y 1, eq_ix2 y⟩
  have hrows : ∀ (g : Fin 80) (j : Fin 32) (l : Fin 512),
      View.readAt (Elt Ideal) arg4.view (rowsRect g).toLoadRect (harg4.unread x3) (ix2 j l)
        = x3 (ix2 (⟨32 * g.val + j.val, by omega⟩ : Fin 2560) l) := by
    intro g j l
    rw [harg4.readAt_unread]
    refine congrArg x3 (funext fun b => Fin.ext ?_)
    match b with
    | ⟨0, _⟩ => show 32 * g.val + 1 * j.val = 32 * g.val + j.val; omega
    | ⟨1, _⟩ => show 0 + 1 * l.val = l.val; omega
  have hmat := Ideal.matmul_plain_apply (M := 96) (K := 10240) (N := 512) (φ₁ := .bf16) (φ₂ := .bf16) none (permuted x2)
    (stack (F := Ideal) fun g => unpackGroup (View.readAt (Elt Ideal) arg4.view (rowsRect g).toLoadRect (harg4.unread x3)))
    (constant S96x512 .f32 0x00000000#32) r l
  have hsum : (∑ k : Fin 10240, permuted x2 (ix2 r k)
        * stack (F := Ideal) (fun g => unpackGroup (View.readAt (Elt Ideal) arg4.view (rowsRect g).toLoadRect (harg4.unread x3))) (ix2 k l))
      = ∑ k : Fin 10240, x2 (ix2 r k) * trit (x3 (ix2 (⟨k.val / 4, by omega⟩ : Fin 2560) l)) (k.val % 4) := by
    refine Eq.trans ?_ ((Equiv.ofBijective lane lane_bijective).sum_comp
      fun k : Fin 10240 => (x2 (ix2 r k) * trit (x3 (ix2 (⟨k.val / 4, by omega⟩ : Fin 2560) l)) (k.val % 4) : EReal))
    refine Finset.sum_congr rfl fun K _ => ?_
    rw [stack_apply x3 (fun g => View.readAt (Elt Ideal) arg4.view (rowsRect g).toLoadRect (harg4.unread x3)) hrows]
    rfl
  have hacc : (constant (F := Ideal) S96x512 .f32 0x00000000#32) (ix2 r l) = (0 : EReal) := Ideal.ofBits_zero_f32
  rw [hsum, hacc, zero_add] at hmat
  exact congrArg (· * x0 (Shape.Idx.first (by decide))) hmat

/-- The scale as the body reads it. -/
theorem scale_read : View.readAt (Elt Ideal) arg1.view (Rect.unit ![0] S1.size inb_S1_S1_0).toLoadRect (harg1.unread x0) (Shape.Idx.first (by decide))
    = x0 (Shape.Idx.first (by decide)) := by
  rw [harg1.readAt_unread]
  exact congrFun (View.ld_unit_zero (by funext a; match a with | ⟨0, _⟩ => rfl) _ x0) _

/-- The output block of the first point. -/
theorem out_first (h1 : IsOrder x1) (hc0 : cond0_0 i) :
    out0_A_4 (F := Ideal) c i arg1 harg1 arg2 harg2 arg3 harg3 arg4 harg4 arg5 harg5 arg6 harg6 hc0 x0 x1 x2 x3 = blockOut x0 x2 x3 := by
  unfold out0_A_4
  rw [View.read_writes_eq_canon _ _ _ (cover0_A_4 c i arg1 harg1 arg2 harg2 arg3 harg3 arg4 harg4 arg5 harg5 arg6 harg6 hc0 x0 x1 x2 x3),
    pieces_first, View.canon_unit_zero zeros2]
  refine product_eq arg4 harg4 x0 x2 x3 _ (scale_read arg1 harg1 x0) _ ?_
  rw [View.readCov_eq_canon']
  funext y
  rw [scratch_canon c i arg1 harg1 arg2 harg2 arg3 harg3 arg4 harg4 arg5 harg5 arg6 harg6 x0 x1 x2 x3 h1 hc0]
  exact congrFun (View.ld_unit_zero zeros2 _ (permuted x2)) y

/-- The output block of a later point that finds the permuted activations in the scratch. -/
theorem out_later (hc0 : ¬cond0_0 i) :
    out0_B_4 (F := Ideal) c i arg1 harg1 arg2 harg2 arg3 harg3 arg4 harg4 arg5 harg5 arg6 harg6 hc0 x0 x1 x2 x3 (permuted x2) = blockOut x0 x2 x3 := by
  unfold out0_B_4
  rw [View.read_writes_eq_canon _ _ _ (cover0_B_4 c i arg1 harg1 arg2 harg2 arg3 harg3 arg4 harg4 arg5 harg5 arg6 harg6 hc0 x0 x1 x2 x3 (permuted x2)),
    pieces_later, View.canon_unit_zero zeros2]
  refine product_eq arg4 harg4 x0 x2 x3 _ (scale_read arg1 harg1 x0) _ ?_
  funext y
  rw [harg6.readAt_unread]
  exact congrFun (View.ld_unit_zero zeros2 _ (permuted x2)) y

end Scratch

end Cert.KernelIdeal.Gen

end
-- ==== Proof.Array.lean ====
/-
  THE WHOLE RESULT ARRAY. The fourteen points' blocks tile the 7168 columns; block `t` covers columns `512 t` to
  `512 t + 511`. The scratch written at the first point is still there at the later ones, so every block is `blockOut`
  of the point's inputs, and the array is one formula over the arguments (`product`).
-/
module

public import proofs.«01_k».proof.Proof.Block
public import Idealize.ShloMosaic.Lib.Pipeline.ValueKit
public import Idealize.ShloMosaic.Lib.Claim

@[expose] public section

set_option maxRecDepth 16384

noncomputable section

namespace Cert.KernelIdeal.Gen

open Idealize.ShloMosaic Idealize.ShloMosaic.TcCoe Idealize.SL.Sem Idealize.ShloMosaic.ValueIdx Idealize.ShloMosaic.Tactic
open Idealize.ShloMosaic.Pipeline (Dat)

variable (m : (ℓ : Loc nD τ sig) → Buf (Elt Ideal) ℓ)

/-- Which block of its array each window reads or writes at point `t`: the packed weights and the result move along the
    columns, the rest stays. -/
theorem idx : ∀ t : Fin cfg0.N, win0_0.index t = ![0] ∧ win0_1.index t = ![0, 0] ∧ win0_2.index t = ![0, 0]
    ∧ win0_3.index t = ![0, t.val] ∧ win0_4.index t = ![0, t.val] :=
  (by decide +kernel : ∀ t : Fin grid0.N, _)

/-- The table handed to the kernel is the order of the unpacking. -/
theorem table (c : Dev nD) : V m c main_v0 = shapeCast S1x128 (fun i => lit0 (S128.rowMajor i)) shapeCasts_S128_S1x128 := by
  show StableHlo.after hostOps0 (fun b => m (c, b)) _ = _
  after_results_simp
  rfl

/-- The scale handed to the kernel is the scalar argument. -/
theorem entry_scale (c : Dev nD) : V m c main_v1 = shapeCast S1 (m ((c : Thread nD τ).loc main_arg2)) shapeCasts_S_S1 := by
  show StableHlo.after hostOps0 (fun b => m (c, b)) _ = _
  after_results_simp
  rfl

/-- The activations handed to the kernel are the argument without its middle axis of extent one. -/
theorem entry_x (c : Dev nD) : V m c main_v2 = shapeCast S96x10240 (m ((c : Thread nD τ).loc main_arg0)) shapeCasts_S96x1x10240_S96x10240 := by
  show StableHlo.after hostOps0 (fun b => m (c, b)) _ = _
  after_results_simp
  rfl

/-- Every point reads the whole scale. -/
theorem block_scale (c : Dev nD) (t : Fin cfg0.N) : iblk m c 0 t = V m c main_v1 := by
  funext y
  blk_ext [iblk, idx t]

/-- Every point reads the whole order table. -/
theorem block_table (c : Dev nD) (t : Fin cfg0.N) : iblk m c 1 t = V m c main_v0 := by
  funext y
  blk_ext [iblk, idx t]

/-- Every point reads all the activations. -/
theorem block_x (c : Dev nD) (t : Fin cfg0.N) : iblk m c 2 t = V m c main_v2 := by
  funext y
  blk_ext [iblk, idx t]

/-- Point `t` reads columns `512 t` to `512 t + 511` of the packed weights. -/
theorem block_w (c : Dev nD) (t : Fin cfg0.N) (r : Fin 2560) (l : Fin 512) (h : 512 * t.val + l.val < 7168) :
    iblk m c 3 t (ValueIdx.ix2 r l) = m ((c : Thread nD τ).loc main_arg1) (ValueIdx.ix2 r (⟨512 * t.val + l.val, h⟩ : Fin 7168)) := by
  blk_ext [iblk, V, idx t]
  show t.val * 512 + l.val = 512 * t.val + l.val
  omega

/-- Entry `L` of the table is `ord L`. -/
theorem lit_ord : ∀ L : Fin 128, lit0 L = BitVec.ofNat 32 (ord L.val) := by decide +kernel

/-- The table handed to the kernel is in the order of the unpacking. -/
theorem table_order (c : Dev nD) : IsOrder (V m c main_v0) := by
  intro L
  rw [table]
  refine (shapeCast_apply _ _ (ValueIdx.ix2 (0 : Fin 1) L) (ValueIdx.ix1 L) ?_).trans ?_
  · rw [Shape.rowMajor_val_two, Shape.rowMajor_val_one]
    show L.val = 0 * 128 + L.val
    omega
  · refine Eq.trans (congrArg lit0 (Fin.ext ?_)) (lit_ord L)
    rw [Shape.rowMajor_val_one]

/-- What every point leaves: its block of the product, and the permuted activations still in the scratch. -/
theorem outs (c : Dev nD) : ∀ (n : ℕ) (hn : n < cfg0.N),
    outsAt0 m c n hn = (blockOut (V m c main_v1) (V m c main_v2) (iblk m c 3 ⟨n, hn⟩), permuted (V m c main_v2)) := by
  intro n
  induction n with
  | zero =>
    intro hn
    refine (outsAt0_A m c ⟨0, hn⟩ rfl).trans ?_
    rw [out_first _ _ _ _ _ _ _ _ _ _ _ _ _ _ _ _ _ _ (by rw [block_table]; exact table_order m c),
      sout_first _ _ _ _ _ _ _ _ _ _ _ _ _ _ _ _ _ _ (by rw [block_table]; exact table_order m c), block_scale, block_x]
  | succ n ih =>
    intro hn
    have hN : n + 1 < 14 := hn
    refine (outsAt0_B m c ⟨n + 1, hn⟩ (by show ¬ (n + 1) % 14 = 0; omega)).trans ?_
    have hprev : (outsAt0 m c (n + 1 - 1) (Nat.lt_of_le_of_lt (Nat.sub_le _ _) hn)).2 = permuted (V m c main_v2) := by
      rw [show outsAt0 m c (n + 1 - 1) _ = _ from ih (Nat.lt_of_succ_lt hn)]
    unfold sout0_B_0
    rw [show (outsAt0 m c ((⟨n + 1, hn⟩ : Fin cfg0.N).val - 1) _).2 = _ from hprev]
    rw [← block_x m c ⟨n + 1, hn⟩, out_later, block_scale]

/-- The whole product: activations times weights, summed over all 10240 positions, times the scale. -/
def product (x : Vec Ideal S96x10240 .bf16) (w : Vec Ideal S2560x7168 .i8) (s : Vec Ideal S1 .f32) : Vec Ideal S96x7168 .bf16 := fun y =>
  (∑ k : Fin 10240, x (ValueIdx.ix2 (show Fin 96 from y 0) k)
      * trit (w (ValueIdx.ix2 (⟨k.val / 4, by omega⟩ : Fin 2560) (show Fin 7168 from y 1))) (k.val % 4))
    * s (Shape.Idx.first (by decide))

/-- A block whose packed weights are column `n` of the array, at its column `l`, is the product at column `n`. -/
theorem blockOut_eq (x : Vec Ideal S96x10240 .bf16) (w : Vec Ideal S2560x7168 .i8) (s : Vec Ideal S1 .f32) (b : Vec Ideal S2560x512 .i8)
    (r : Fin 96) (l : Fin 512) (n : Fin 7168) (h : ∀ R : Fin 2560, b (ValueIdx.ix2 R l) = w (ValueIdx.ix2 R n)) :
    blockOut s x b (ValueIdx.ix2 r l) = product x w s (ValueIdx.ix2 r n) := by
  refine congrArg (· * s (Shape.Idx.first (by decide))) (Finset.sum_congr rfl fun k _ => ?_)
  exact congrArg (x (ValueIdx.ix2 r k) * ·) (congrArg (trit · (k.val % 4)) (h (⟨k.val / 4, by omega⟩ : Fin 2560)))

/-- The result array after the last point is the product. -/
theorem final (c : Dev nD) : (dats m 0 c).arrAt 4 (cfgs 0).N
    = product (V m c main_v2) (m ((c : Thread nD τ).loc main_arg1)) (V m c main_v1) := by
  refine (dats m 0 c).arrAt_eq_of_covers 4 _ (by decide +kernel) fun t _ y => ?_
  blk_simp
  rw [after0_4, outs]
  have ht : t.val < 14 := t.isLt
  obtain ⟨r, l, rfl⟩ : ∃ (r : Fin 96) (l : Fin 512), y = ValueIdx.ix2 r l := ⟨y 0, y 1, ValueIdx.eq_ix2 (n0 := 96) (n1 := 512) y⟩
  have hl : 512 * t.val + l.val < 7168 := by omega
  have he : (win0_4.blk t).view.emb (ValueIdx.ix2 r l) = ValueIdx.ix2 r (⟨512 * t.val + l.val, hl⟩ : Fin 7168) := by
    funext a
    refine Fin.ext ?_
    match a with
    | ⟨0, _⟩ => blk_simp [idx t]
    | ⟨1, _⟩ =>
      blk_simp [idx t]
      show t.val * 512 + l.val = 512 * t.val + l.val
      omega
  rw [he]
  exact blockOut_eq _ _ _ _ r l _ fun R => block_w m c t R l hl

end Cert.KernelIdeal.Gen

end
-- ==== Proof.Result.lean ====
/-
  WHAT THE KERNEL'S RUN ENDS WITH. After the grid the host gives the product back its middle axis of extent one; the
  arguments are as they were.
-/
module

public import proofs.«01_k».proof.Proof.Array

@[expose] public section

set_option maxRecDepth 16384

noncomputable section

namespace Cert.KernelIdeal.Gen

open Idealize.ShloMosaic Idealize.ShloMosaic.TcCoe Idealize.SL.Sem Idealize.ShloMosaic.Tactic

variable (m : (ℓ : Loc nD τ sig) → Buf (Elt Ideal) ℓ)

/-- The kernel's result as one formula over the three arguments. -/
def value (x : Vec Ideal S96x1x10240 .bf16) (w : Vec Ideal S2560x7168 .i8) (s : Vec Ideal S_ .f32) : Vec Ideal S96x1x7168 .bf16 :=
  shapeCast S96x1x7168
    (product (shapeCast S96x10240 x shapeCasts_S96x1x10240_S96x10240) w (shapeCast S1 s shapeCasts_S_S1))
    shapeCasts_S96x7168_S96x1x7168

/-- The last host operation reads the array the grid left. -/
theorem tail (c : Dev nD) : Pipeline.afterTail₀ cfgs (dats m) 0 (V0 m) [hostOps1] c main_v4
    = value (m ((c : Thread nD τ).loc main_arg0)) (m ((c : Thread nD τ).loc main_arg1)) (m ((c : Thread nD τ).loc main_arg2)) := by
  have harr : Pipeline.withArrays (cfgs 0).spec c (V0 m c) (fun w => (dats m 0 c).arrAt w (cfgs 0).N) (Proc.devRef .tc main_v3)
      = (dats m 0 c).arrAt 4 (cfgs 0).N :=
    Pipeline.withArrays_arr (cfgs 0).spec (by decide) c (V0 m c) _ 4
  rw [final, entry_x, entry_scale] at harr
  show StableHlo.after hostOps1 _ _ = _
  after_results_simp
  rw [harr]
  rfl

/-- The run of the kernel with its result stated. -/
theorem run (g : Dev nD → PrngReg) : θ_run defs (onTc (τ := τ) (main (F := Ideal))) ⟨m, fun _ => 0, g⟩ (fun r => ∀ c : Dev nD,
      r.2.mem ((c.tc : Thread nD τ).loc main_v4)
        = value (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun _ h c => ⟨((h.1 c).2 main_v4 (Pipeline.mem_restRefs_of main_v4 (by decide) (by decide))).trans (tail m c), h.2 c⟩)
    (θ_run_and (run_main m g) (unchanged m g))

end Cert.KernelIdeal.Gen

end
-- ==== Proof.Reference.lean ====
/-
  WHAT THE REFERENCE COMPUTES. The reference treats the four codes of a byte one after the other: the activations at positions
  `4 r + q` against code `q` of row `r`. Each of these four products is read here as a sum over the rows, and the four
  together as the one sum over all 10240 positions.
-/
module

public import proofs.«01_k».proof.Proof.Codes
public import proofs.«01_k».proof.Proof.Gen.ReferenceIdeal.Run
public import Idealize.ShloMosaic.Lib.Pipeline.Value
public import Idealize.ShloMosaic.Lib.MatmulPlain
public import Idealize.ShloMosaic.Lib.IdealHost

@[expose] public section

set_option maxRecDepth 16384

noncomputable section

namespace Cert.ReferenceIdeal.Gen

open Idealize.ShloMosaic Idealize.ShloMosaic.ValueIdx Idealize.ShloMosaic.Tactic
open Cert.KernelIdeal.Gen (trit less1)

/-- Shifting a byte's word right by `2 q` and keeping two bits gives code `q`, and that less one is the weight. -/
theorem code_word (b : BitVec 8) (q : Fin 4) :
    IntOp.andi (IntOp.shrsi .host (b.setWidth 32) (BitVec.ofNat 32 (2 * q.val))) 3#32
      = (if b.getLsbD (2 * q.val) then 1#32 else 0#32) ||| (if b.getLsbD (2 * q.val + 1) then 2#32 else 0#32) := by
  revert b q
  decide +kernel

/-- The value of a code, less one. -/
theorem code_value (b0 b1 : Bool) :
    ((((((if b0 then 1#32 else 0#32) ||| (if b1 then 2#32 else 0#32) : BitVec 32)).toInt : ℝ) : EReal) - (1 : EReal)) = less1 b0 b1 := by
  rw [show (1 : EReal) = ((1 : ℝ) : EReal) from rfl, ← EReal.coe_sub, less1, EReal.coe_eq_coe_iff]
  cases b0 <;> cases b1 <;> simp <;> norm_num

/-- The weights the reference multiplies the activations at positions `4 r + q` with. -/
def weights (w : Vec Ideal S2560x7168 .i8) (q : Fin 4) : Vec Ideal S2560x7168 .bf16 :=
  subf (F := Ideal) (sitofp (F := Ideal) .bf16 (andi (Host.shrsi (extui 32 w natLt_8_32)
      (broadcastInDim S2560x7168 ![] bcast_S_S2560x7168 (constantI S_ 32 (BitVec.ofNat 32 (2 * q.val)))))
      (broadcastInDim S2560x7168 ![] bcast_S_S2560x7168 (constantI S_ 32 3#32))))
    (broadcastInDim S2560x7168 ![] bcast_S_S2560x7168 (constant S_ .bf16 0x3F80#16))

/-- They are the codes less one. -/
theorem weights_apply (w : Vec Ideal S2560x7168 .i8) (q : Fin 4) (i : S2560x7168.Idx) : weights w q i = trit (w i) q.val := by
  show (((IntOp.andi (IntOp.shrsi .host ((w i).setWidth 32) (BitVec.ofNat 32 (2 * q.val))) 3#32).toInt : ℝ) : EReal)
    - Ideal.ofBits .bf16 0x3F80#16 = _
  rw [code_word, Ideal.ofBits_one_bf16]
  exact code_value _ _

/-- One of the four products, at row `i` and column `n`. -/
theorem dot_apply (x : Vec Ideal S96x1x10240 .bf16) (w : Vec Ideal S2560x7168 .bf16) (q : Fin 4)
    (h : S96x1x10240.SlicesBy (![0, 0, q.val] : Fin 3 → Nat) ![1, 1, 4] S96x1x2560) (i : Fin 96) (n : Fin 7168) :
    Host.dotGeneral (F := Ideal) (φ₁ := .bf16) (φ₂ := .bf16) dot_S96x1x2560_S2560x7168_S96x1x7168_2_0_01_1_n_n none (Host.slice S96x1x2560 ![0, 0, q.val] ![1, 1, 4] x h) w
        (ix3 i (0 : Fin 1) n)
      = (∑ r : Fin 2560, x (ix3 i (0 : Fin 1) (⟨4 * r.val + q.val, by omega⟩ : Fin 10240)) * w (ix2 r n) : EReal) := by
  unfold Host.dotGeneral
  rw [Ideal.dotGeneral_apply,
    ← Equiv.sum_comp (contrEquiv1 dot_S96x1x2560_S2560x7168_S96x1x7168_2_0_01_1_n_n 2560 rfl rfl).symm]
  refine Finset.sum_congr rfl fun r _ => ?_
  have hr := contrEquiv1_symm_val dot_S96x1x2560_S2560x7168_S96x1x7168_2_0_01_1_n_n 2560 rfl rfl r
  congr 1
  · refine congrArg x (funext fun a => Fin.ext ?_)
    match a with
    | ⟨0, _⟩ => show 0 + 1 * i.val = i.val; omega
    | ⟨1, _⟩ => rfl
    | ⟨2, _⟩ => exact (congrArg (fun p => q.val + 4 * p) hr).trans (Nat.add_comm _ _)
  · refine congrArg w (funext fun a => Fin.ext ?_)
    match a with
    | ⟨0, _⟩ => exact hr
    | ⟨1, _⟩ => rfl

/-- A sum over all positions, taken as four sums over the rows. -/
theorem sum_four (f : Fin 10240 → EReal) : (∑ k : Fin 10240, f k)
    = (((∑ r : Fin 2560, f (⟨4 * r.val + (0 : Fin 4).val, by omega⟩ : Fin 10240))
      + ∑ r : Fin 2560, f (⟨4 * r.val + (1 : Fin 4).val, by omega⟩ : Fin 10240))
      + ∑ r : Fin 2560, f (⟨4 * r.val + (2 : Fin 4).val, by omega⟩ : Fin 10240))
      + ∑ r : Fin 2560, f (⟨4 * r.val + (3 : Fin 4).val, by omega⟩ : Fin 10240) := by
  rw [← Finset.sum_add_distrib, ← Finset.sum_add_distrib, ← Finset.sum_add_distrib]
  refine ((finProdFinEquiv (m := 2560) (n := 4)).sum_comp (fun k : Fin 10240 => f k)).symm.trans ?_
  rw [Fintype.sum_prod_type]
  refine Finset.sum_congr rfl fun r _ => ?_
  rw [Fin.sum_univ_four]
  congr 1
  · congr 1
    · congr 1
      · exact congrArg f (Fin.ext (Nat.add_comm _ _))
      · exact congrArg f (Fin.ext (Nat.add_comm _ _))
    · exact congrArg f (Fin.ext (Nat.add_comm _ _))
  · exact congrArg f (Fin.ext (Nat.add_comm _ _))

/-- One of the four products with its weights read as codes. -/
theorem part_apply (x : Vec Ideal S96x1x10240 .bf16) (w : Vec Ideal S2560x7168 .i8) (q : Fin 4)
    (h : S96x1x10240.SlicesBy (![0, 0, q.val] : Fin 3 → Nat) ![1, 1, 4] S96x1x2560) (i : Fin 96) (n : Fin 7168) :
    Host.dotGeneral (F := Ideal) (φ₁ := .bf16) (φ₂ := .bf16) dot_S96x1x2560_S2560x7168_S96x1x7168_2_0_01_1_n_n none
        (Host.slice S96x1x2560 ![0, 0, q.val] ![1, 1, 4] x h) (weights w q) (ix3 i (0 : Fin 1) n)
      = (∑ r : Fin 2560, (fun k : Fin 10240 => x (ix3 i (0 : Fin 1) k) * trit (w (ix2 (⟨k.val / 4, by omega⟩ : Fin 2560) n)) (k.val % 4))
          (⟨4 * r.val + q.val, by omega⟩ : Fin 10240) : EReal) := by
  rw [dot_apply]
  refine Finset.sum_congr rfl fun r _ => congrArg (x _ * ·) ?_
  rw [weights_apply]
  exact congrArg₂ trit (congrArg w (congrArg (ix2 · n) (Fin.ext (by show r.val = (4 * r.val + q.val) / 4; omega))))
    (by show q.val = (4 * r.val + q.val) % 4; omega)

/-- The reference's result over the three arguments. -/
def reference (x : Vec Ideal S96x1x10240 .bf16) (w : Vec Ideal S2560x7168 .i8) (s : Vec Ideal S_ .f32) : Vec Ideal S96x1x7168 .bf16 :=
  truncf (F := Ideal) .bf16 (mulf (addf (addf (addf
      (Host.dotGeneral (F := Ideal) (φ₁ := .bf16) (φ₂ := .bf16) dot_S96x1x2560_S2560x7168_S96x1x7168_2_0_01_1_n_n none
        (Host.slice S96x1x2560 ![0, 0, 0] ![1, 1, 4] x slicesBy_S96x1x10240_S96x1x2560_0s1_0s1_0s4) (weights w 0))
      (Host.dotGeneral (F := Ideal) (φ₁ := .bf16) (φ₂ := .bf16) dot_S96x1x2560_S2560x7168_S96x1x7168_2_0_01_1_n_n none
        (Host.slice S96x1x2560 ![0, 0, 1] ![1, 1, 4] x slicesBy_S96x1x10240_S96x1x2560_0s1_0s1_1s4) (weights w 1)))
      (Host.dotGeneral (F := Ideal) (φ₁ := .bf16) (φ₂ := .bf16) dot_S96x1x2560_S2560x7168_S96x1x7168_2_0_01_1_n_n none
        (Host.slice S96x1x2560 ![0, 0, 2] ![1, 1, 4] x slicesBy_S96x1x10240_S96x1x2560_0s1_0s1_2s4) (weights w 2)))
      (Host.dotGeneral (F := Ideal) (φ₁ := .bf16) (φ₂ := .bf16) dot_S96x1x2560_S2560x7168_S96x1x7168_2_0_01_1_n_n none
        (Host.slice S96x1x2560 ![0, 0, 3] ![1, 1, 4] x slicesBy_S96x1x10240_S96x1x2560_0s1_0s1_3s4) (weights w 3)))
    (broadcastInDim S96x1x7168 ![] bcast_S_S96x1x7168 s)) bitsLt_bf16_f32

/-- The reference's result at row `i` and column `n`: the sum over all positions, times the scale. -/
theorem reference_apply (x : Vec Ideal S96x1x10240 .bf16) (w : Vec Ideal S2560x7168 .i8) (s : Vec Ideal S_ .f32) (i : Fin 96) (n : Fin 7168) :
    reference x w s (ix3 i (0 : Fin 1) n)
      = ((∑ k : Fin 10240, x (ix3 i (0 : Fin 1) k) * trit (w (ix2 (⟨k.val / 4, by omega⟩ : Fin 2560) n)) (k.val % 4))
          * s (Shape.Idx.first (by decide)) : EReal) := by
  rw [sum_four, ← part_apply x w 0 slicesBy_S96x1x10240_S96x1x2560_0s1_0s1_0s4, ← part_apply x w 1 slicesBy_S96x1x10240_S96x1x2560_0s1_0s1_1s4,
    ← part_apply x w 2 slicesBy_S96x1x10240_S96x1x2560_0s1_0s1_2s4, ← part_apply x w 3 slicesBy_S96x1x10240_S96x1x2560_0s1_0s1_3s4]
  refine congrArg (HMul.hMul (α := EReal) _) (congrArg s (funext fun a => a.elim0))

end Cert.ReferenceIdeal.Gen

end
-- ==== Proof.Equation.lean ====
/-
  THE EQUATION. The kernel's result, read at a row and a column, is the sum over all positions times the scale; so is the
  reference's.
-/
module

public import proofs.«01_k».proof.Proof.Result
public import proofs.«01_k».proof.Proof.Reference

@[expose] public section

set_option maxRecDepth 16384

noncomputable section

namespace Cert.Equation

open Idealize.ShloMosaic Cert.KernelIdeal Cert.KernelIdeal.Gen

/-- The kernel's result at row `i` and column `n`. -/
theorem value_apply (x : Vec Ideal S96x1x10240 .bf16) (w : Vec Ideal S2560x7168 .i8) (s : Vec Ideal S_ .f32) (i : Fin 96) (n : Fin 7168) :
    value x w s (ValueIdx.ix3 i (0 : Fin 1) n)
      = ((∑ k : Fin 10240, x (ValueIdx.ix3 i (0 : Fin 1) k) * trit (w (ValueIdx.ix2 (⟨k.val / 4, by omega⟩ : Fin 2560) n)) (k.val % 4))
          * s (Shape.Idx.first (by decide)) : EReal) := by
  have hx : ∀ k : Fin 10240, shapeCast S96x10240 x shapeCasts_S96x1x10240_S96x10240 (ValueIdx.ix2 i k) = x (ValueIdx.ix3 i (0 : Fin 1) k) := by
    intro k
    refine shapeCast_apply _ _ _ _ ?_
    rw [Shape.rowMajor_val_three, Shape.rowMajor_val_two]
    show (i.val * 1 + 0) * 10240 + k.val = i.val * 10240 + k.val
    omega
  have hs : shapeCast S1 s shapeCasts_S_S1 (Shape.Idx.first (by decide)) = s (Shape.Idx.first (by decide)) :=
    congrArg s (funext fun a => a.elim0)
  unfold value
  refine (shapeCast_apply _ _ _ (ValueIdx.ix2 i n) ?_).trans ?_
  · rw [Shape.rowMajor_val_three, Shape.rowMajor_val_two]
    show i.val * 7168 + n.val = (i.val * 1 + 0) * 7168 + n.val
    omega
  · refine congrArg₂ (HMul.hMul (α := EReal)) (Finset.sum_congr rfl fun k _ => ?_) hs
    exact congrArg (HMul.hMul (α := EReal) · _) (hx k)

/-- The kernel's result is the reference's. -/
theorem value_eq_reference (x : Vec Ideal S96x1x10240 .bf16) (w : Vec Ideal S2560x7168 .i8) (s : Vec Ideal S_ .f32) :
    value x w s = Cert.ReferenceIdeal.Gen.reference x w s := by
  funext y
  obtain ⟨i, u, n, rfl⟩ : ∃ (i : Fin 96) (u : Fin 1) (n : Fin 7168), y = ValueIdx.ix3 i u n :=
    ⟨y 0, y 1, y 2, ValueIdx.eq_ix3 (n0 := 96) (n1 := 1) (n2 := 7168) y⟩
  rw [Subsingleton.elim u 0]
  exact (value_apply x w s i n).trans (Cert.ReferenceIdeal.Gen.reference_apply x w s i n).symm

end Cert.Equation

end
-- ==== Proof.lean ====
/-
  The proof of `Cert.Claim`: the kernel runs on floats as they are and on extended reals, the reference runs, no operation
  was rewritten, and at extended reals the kernel and the reference end with equal results. The frames are the generated
  ones; the equality is `Proof/Equation.lean`'s.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem Idealize.ShloMosaic.Tactic

/-- From memories that agree on the arguments, the kernel and the reference end with equal results. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨_, Cert.KernelIdeal.Gen.run m g, ?_⟩
  refine (θ_run _ _ _).mono (fun _ h c => ⟨(h c).1.trans ?_, (h c).2⟩) (Cert.ReferenceIdeal.Value.run m' g')
  rw [(hagree c).1, (hagree c).2.1, (hagree c).2.2]
  exact (Cert.Equation.value_eq_reference _ _ _).symm

/-- The reference runs, leaves its arguments unchanged, and every counter ends at zero: it has none. -/
theorem reference_frame : Cert.quiescent_ReferenceIdeal (hReferenceIdeal := Cert.ReferenceIdeal.Gen.facts) := by
  intro m g _
  exact (θ_run _ _ _).mono (fun r h => ⟨fun c => (h c).2, sem_eq_zero_of_no_sems (by decide) r.2⟩) (Cert.ReferenceIdeal.Value.run m g)

/-- Every claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  reference_frame, trivial, algebraic⟩

end Cert.Proof

end
